-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S300000x4 : Shape := ⟨2, ![300000, 4]⟩
abbrev S35x4x20000 : Shape := ⟨3, ![35, 4, 20000]⟩
abbrev S4x20000 : Shape := ⟨2, ![4, 20000]⟩
abbrev S20000 : Shape := ⟨1, ![20000]⟩
abbrev S5x4x20000 : Shape := ⟨3, ![5, 4, 20000]⟩
abbrev S9 : Shape := ⟨1, ![9]⟩
abbrev S1 : Shape := ⟨1, ![1]⟩
abbrev S_ : Shape := ⟨0, ![]⟩
abbrev S20000x35x4 : Shape := ⟨3, ![20000, 35, 4]⟩
abbrev S20000x4 : Shape := ⟨2, ![20000, 4]⟩
abbrev S20000x3 : Shape := ⟨2, ![20000, 3]⟩

abbrev nBuf : Space → Nat
  | .hbm => 7
  | .vmem => 3
  | .smem => 0
  | _ => 0

abbrev bufTy : (tb : Table) → Fin (tcTables nBuf tb) → BufTy
  | .hbm, ⟨0, _⟩ => ⟨S300000x4, .f32⟩
  | .hbm, ⟨1, _⟩ => ⟨S35x4x20000, .f32⟩
  | .hbm, ⟨2, _⟩ => ⟨S4x20000, .i32⟩
  | .hbm, ⟨3, _⟩ => ⟨S20000, .i32⟩
  | .hbm, ⟨4, _⟩ => ⟨S20000x35x4, .f32⟩
  | .hbm, ⟨5, _⟩ => ⟨S20000x4, .i32⟩
  | .hbm, ⟨6, _⟩ => ⟨S20000x3, .i32⟩
  | .local _ .vmem, ⟨0, _⟩ => ⟨S5x4x20000, .f32⟩
  | .local _ .vmem, ⟨1, _⟩ => ⟨S4x20000, .i32⟩
  | .local _ .vmem, ⟨2, _⟩ => ⟨S20000, .i32⟩
  | _, _ => ⟨S300000x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== ReferenceIdeal.lean ====
abbrev S300000x4 : Shape := ⟨2, ![300000, 4]⟩
abbrev S_ : Shape := ⟨0, ![]⟩
abbrev S20000x35x4 : Shape := ⟨3, ![20000, 35, 4]⟩
abbrev S20000x3 : Shape := ⟨2, ![20000, 3]⟩
abbrev S20000 : Shape := ⟨1, ![20000]⟩

abbrev nBuf : Space → Nat
  | .hbm => 7
  | .vmem => 0
  | .smem => 0
  | _ => 0

abbrev bufTy : (tb : Table) → Fin (tcTables nBuf tb) → BufTy
  | .hbm, ⟨0, _⟩ => ⟨S300000x4, .f32⟩
  | .hbm, ⟨1, _⟩ => ⟨S_, .f32⟩
  | .hbm, ⟨2, _⟩ => ⟨S20000x35x4, .f32⟩
  | .hbm, ⟨3, _⟩ => ⟨S_, .i32⟩
  | .hbm, ⟨4, _⟩ => ⟨S20000x3, .i32⟩
  | .hbm, ⟨5, _⟩ => ⟨S_, .i32⟩
  | .hbm, ⟨6, _⟩ => ⟨S20000, .i32⟩
  | _, _ => ⟨S300000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Blocks.lean ====
/-
  The kernel's buffers, and the large result cut into the seven blocks its transfers fill.
-/
module

public import proofs.«01_k».proof.Proof.Gen.Kernel.Frame
public import proofs.«01_k».proof.Proof.Gen.Kernel.Skeleton
public import Idealize.ShloMosaic.Lib.Pipeline.FrameSuffixV
public import Idealize.ShloMosaic.Lib.ViewIndex

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's beside the transfers' counters. -/
local notation "𝕄" => MT nD τ sig Unit (Elt F) ℕ (Pipeline.UD sig nD τ) ℕ

/-! ## The buffers -/

/-- The three results the kernel writes, left in HBM. -/
abbrev voxM : Memref sig .tc .hbm S35x4x20000 .f32 := Memref.whole main_v0_0
abbrev coorM : Memref sig .tc .hbm S4x20000 .i32 := Memref.whole main_v0_1
abbrev numM : Memref sig .tc .hbm S20000 .i32 := Memref.whole main_v0_2
/-- The three buffers it copies them out of. -/
abbrev vzM : Memref sig .tc .vmem S5x4x20000 .f32 := Memref.whole cc0_scratch0
abbrev czM : Memref sig .tc .vmem S4x20000 .i32 := Memref.whole cc0_scratch1
abbrev nzM : Memref sig .tc .vmem S20000 .i32 := Memref.whole cc0_scratch2

/-- A memref's elements on core `c`, held at share `q` and contents `f`. -/
abbrev pt (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

/-- The float zero, as the kernel writes it. -/
abbrev zf : F .f32 := Scalar.ofBits .f32 0x00000000#32

/-! ## The large result in seven blocks -/

/-- The rows of the large result from `r` on, as many as one transfer moves. -/
abbrev rows (r : Fin 3 → ℕ) (h : ∀ a, r a + S5x4x20000.size a ≤ S35x4x20000.size a) : Memref sig .tc .hbm S5x4x20000 .f32 :=
  voxM.slice (Rect.unit (s := S35x4x20000) r S5x4x20000.size h) (fun _ => rfl)

/-- Block `k` starts at row `5 k`, inside the result. -/
theorem blk_inb (k : Fin 7) : ∀ a, (![5 * k.val, 0, 0] : Fin 3 → ℕ) a + S5x4x20000.size a ≤ S35x4x20000.size a := by
  intro a; fin_cases k <;> fin_cases a <;> decide

/-- Block `k` of the large result. -/
abbrev blk (k : Fin 7) : Memref sig .tc .hbm S5x4x20000 .f32 := rows ![5 * k.val, 0, 0] (blk_inb k)

/-- The elements of block `k`, among the result's. -/
abbrev blkSet (k : Fin 7) : Finset S35x4x20000.Idx := (blk k).view.set

/-- An element lies in block `k` exactly when its row does. -/
theorem mem_blk (k : Fin 7) (i : S35x4x20000.Idx) : i ∈ blkSet k ↔ 5 * k.val ≤ (i 0).val ∧ (i 0).val < 5 * k.val + 5 := by
  show i ∈ ((View.whole main_v0_0).slice (Rect.unit (s := S35x4x20000) ![5 * k.val, 0, 0] S5x4x20000.size (blk_inb k))).set ↔ _
  rw [View.set_slice_whole, Rect.mem_set_unit]
  refine ⟨fun h => h 0, fun h (a : Fin 3) => ?_⟩
  match a with
  | 0 => exact h
  | 1 => exact ⟨Nat.zero_le _, lt_of_lt_of_eq (i 1).isLt (Nat.zero_add _).symm⟩
  | 2 => exact ⟨Nat.zero_le _, lt_of_lt_of_eq (i 2).isLt (Nat.zero_add _).symm⟩

/-- Two different blocks share no element. -/
theorem blk_disjoint (k k' : Fin 7) (h : k ≠ k') : Disjoint (blkSet k) (blkSet k') := by
  refine Finset.disjoint_left.mpr fun i hi hi' => h (Fin.ext ?_)
  rw [mem_blk] at hi hi'; omega

/-- Every element lies in a block. -/
theorem blk_cover : (Finset.univ : Finset (Fin 7)).biUnion blkSet = Finset.univ := by
  refine Finset.eq_univ_iff_forall.mpr fun i => ?_
  have hi : (i 0).val < 35 := (i 0).isLt
  exact Finset.mem_biUnion.mpr ⟨⟨(i 0).val / 5, by omega⟩, Finset.mem_univ _, (mem_blk _ i).mpr (by dsimp only; omega)⟩

/-- The large result held whole is its seven blocks held. -/
theorem vox_blocks (c : Dev nD) (f : Buf (Elt F) (voxM.view.loc (c : Thread nD τ))) :
    ((c : Thread nD τ).loc main_v0_0 ↦{fullShare} f : sProp 𝕄) = bigSep Finset.univ fun k => pt c (blk k) fullShare f :=
  Ring.pointsTo_blocks (ℓ := (c : Thread nD τ).loc main_v0_0) blkSet blk_disjoint blk_cover f

/-- Seven assertions in a row. -/
theorem seven (Φ : Fin 7 → sProp 𝕄) : bigSep Finset.univ Φ = iprop(Φ 0 ∗ Φ 1 ∗ Φ 2 ∗ Φ 3 ∗ Φ 4 ∗ Φ 5 ∗ Φ 6) :=
  (bigSep_univ_eq_bigSepL [0, 1, 2, 3, 4, 5, 6] (by decide) (by decide) Φ).trans rfl

/-- The blocks one by one, as the kernel's text names them. -/
theorem vox_listed (c : Dev nD) (f : Buf (Elt F) (voxM.view.loc (c : Thread nD τ))) :
    (pt c voxM fullShare f : sProp 𝕄) = iprop(pt c (rows ![0, 0, 0] inb_S35x4x20000_S5x4x20000_0_0_0) fullShare f
        ∗ pt c (rows ![5, 0, 0] inb_S35x4x20000_S5x4x20000_5_0_0) fullShare f
        ∗ pt c (rows ![10, 0, 0] inb_S35x4x20000_S5x4x20000_10_0_0) fullShare f
        ∗ pt c (rows ![15, 0, 0] inb_S35x4x20000_S5x4x20000_15_0_0) fullShare f
        ∗ pt c (rows ![20, 0, 0] inb_S35x4x20000_S5x4x20000_20_0_0) fullShare f
        ∗ pt c (rows ![25, 0, 0] inb_S35x4x20000_S5x4x20000_25_0_0) fullShare f
        ∗ pt c (rows ![30, 0, 0] inb_S35x4x20000_S5x4x20000_30_0_0) fullShare f) :=
  ((congrArg (fun S => (voxM.view.loc (c : Thread nD τ) ↦[S]{fullShare} f : sProp 𝕄)) (View.set_whole main_v0_0)).trans
    (vox_blocks c f)).trans (seven _)

/-- The zero block held whole is a remainder and seven shares of it, one for each transfer that reads it. -/
theorem vz_listed (c : Dev nD) (f : Buf (Elt F) (vzM.view.loc (c : Thread nD τ))) :
    (pt c vzM fullShare f : sProp 𝕄) ⊣⊢ iprop(pt c vzM (Transfers.shareDrop fullShare 7) f
        ∗ pt c vzM (Transfers.shareTok fullShare 7 0) f ∗ pt c vzM (Transfers.shareTok fullShare 7 1) f ∗ pt c vzM (Transfers.shareTok fullShare 7 2) f
        ∗ pt c vzM (Transfers.shareTok fullShare 7 3) f ∗ pt c vzM (Transfers.shareTok fullShare 7 4) f
        ∗ pt c vzM (Transfers.shareTok fullShare 7 5) f ∗ pt c vzM (Transfers.shareTok fullShare 7 6) f) :=
  (Transfers.pointsTo_toks (Ix := Unit) (Name := ℕ) (U := Pipeline.UD sig nD τ) (Lvl := ℕ) fullShare 7).trans
    ⟨Entails.of_eq (by rw [seven]), Entails.of_eq (by rw [seven])⟩

/-! ## Contents by what is read -/

/-- What a memref holds may be restated at any contents read the same through it. -/
theorem pt_of_read (c : Dev nD) {sp : Space} {S : Shape} {e : EltTy} (M : Memref sig .tc sp S e) (q : PosShare TreeShare)
    {f g : Buf (Elt F) (M.view.loc (c : Thread nD τ))} (h : M.view.read (Elt F) f = M.view.read (Elt F) g) :
    (pt c M q f : sProp 𝕄) = pt c M q g := by
  refine pointsTo_congr fun i hi => ?_
  obtain ⟨x, -, rfl⟩ := Finset.mem_map.mp hi
  exact View.eq_of_read_eq (congrFun h x)

/-- A buffer stored over whole, through the box at zero offsets of its own sizes, has what was stored for contents. -/
theorem stored_eq (b : Ref sig .tc) {off : Fin b.ty.shape.rank → ℕ} (h : off = fun _ => 0)
    (inb : ∀ a, off a + b.ty.shape.size a ≤ b.ty.shape.size a) (f w : b.ty.Contents (Elt F)) :
    (Memref.whole b : Memref sig .tc _ _ _).view.writes (Elt F) f [⟨Rect.unit off b.ty.shape.size inb, w⟩] = w :=
  Memref.write_access_unit_zero_univ (Elt F) b h inb f w

/-- A memref a transfer filled holds any contents that read as what was transferred. -/
theorem landed (c : Dev nD) {sp : Space} {S : Shape} {e : EltTy} (M : Memref sig .tc sp S e) (q : PosShare TreeShare)
    (f g : Buf (Elt F) (M.view.loc (c : Thread nD τ))) (w : S.Idx → Elt F e) (hw : w = M.view.read (Elt F) g) :
    (pt c M q (M.view.writes (Elt F) f [⟨Rect.whole S, w⟩]) : sProp 𝕄) = pt c M q g := by
  refine pt_of_read c M q ?_
  subst hw
  funext x
  have h := View.read_slice_write_emb (v := M.view) (Rect.whole S) f (M.view.read (Elt F) g) (Finset.mem_univ x)
  rwa [show (Rect.whole S).emb x = x from Rect.emb_whole_apply _ x] at h

/-- A block a transfer filled with zeros holds zeros. -/
theorem blk_landed (c : Dev nD) (r : Fin 3 → ℕ) (h : ∀ a, r a + S5x4x20000.size a ≤ S35x4x20000.size a)
    (f : Buf (Elt F) (voxM.view.loc (c : Thread nD τ))) (w : S5x4x20000.Idx → F .f32) (hw : w = fun _ => zf) :
    (pt c (rows r h) fullShare ((rows r h).view.writes (Elt F) f [⟨Rect.whole S5x4x20000, w⟩]) : sProp 𝕄)
      ⊢ pt c (rows r h) fullShare (fun _ => zf) :=
  Entails.of_eq (landed c (rows r h) fullShare f (fun _ => zf) w hw)

end Cert.Kernel.Hand

end
-- ==== Proof.Body.lean ====
/-
  What one run of the kernel's body does: it fills the three results with zeros.
-/
module

public import proofs.«01_k».proof.Proof.Blocks
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The nine transfer semaphores of core `c`, all at zero. -/
abbrev sems0 (c : Dev nD) : sProp 𝕄 :=
  iprop(semVal ((c : Thread nD τ), SemLoc.dma (sig := sig) 0) 0
    ∗ semVal ((c : Thread nD τ), SemLoc.dma (sig := sig) 1) 0
    ∗ semVal ((c : Thread nD τ), SemLoc.dma (sig := sig) 2) 0
    ∗ semVal ((c : Thread nD τ), SemLoc.dma (sig := sig) 3) 0
    ∗ semVal ((c : Thread nD τ), SemLoc.dma (sig := sig) 4) 0
    ∗ semVal ((c : Thread nD τ), SemLoc.dma (sig := sig) 5) 0
    ∗ semVal ((c : Thread nD τ), SemLoc.dma (sig := sig) 6) 0
    ∗ semVal ((c : Thread nD τ), SemLoc.dma (sig := sig) 7) 0
    ∗ semVal ((c : Thread nD τ), SemLoc.dma (sig := sig) 8) 0)

/-- The body from the three results and the three scratch buffers at any contents: it ends with each result at zero
    throughout, the scratch at some contents and every semaphore back at zero. -/
theorem body_run (c : Dev nD) (f0 : Buf (Elt F) (voxM.view.loc (c : Thread nD τ))) (f1 : Buf (Elt F) (coorM.view.loc (c : Thread nD τ)))
    (f2 : Buf (Elt F) (numM.view.loc (c : Thread nD τ))) (g0 : Buf (Elt F) (vzM.view.loc (c : Thread nD τ)))
    (g1 : Buf (Elt F) (czM.view.loc (c : Thread nD τ))) (g2 : Buf (Elt F) (nzM.view.loc (c : Thread nD τ))) (W : Waits sig Unit)
    (K : PUnit → sProp 𝕄) :
    iprop(pt c voxM fullShare f0 ∗ pt c coorM fullShare f1 ∗ pt c numM fullShare f2
        ∗ pt c vzM fullShare g0 ∗ pt c czM fullShare g1 ∗ pt c nzM fullShare g2 ∗ sems0 (F := F) c ∗ owes (c : Thread nD τ) 0 W
        ∗ ((pt c voxM fullShare (fun _ => zf) ∗ pt c coorM fullShare (fun _ => (0#32 : BitVec 32)) ∗ pt c numM fullShare (fun _ => (0#32 : BitVec 32))
            ∗ (∃ f, pt c vzM fullShare f) ∗ (∃ f, pt c czM fullShare f) ∗ (∃ f, pt c nzM fullShare f) ∗ sems0 (F := F) c
            ∗ ∃ W', owes (c : Thread nD τ) 0 W') -∗ K ⟨⟩))
      ⊢ wp frame (wpE (defs₀ (F := F)) Variants.none (c : Thread nD τ) none) Set.univ
        (cc0__zero_fill (F := F) voxM (Memref.isWhole_whole _) coorM (Memref.isWhole_whole _) numM (Memref.isWhole_whole _)
          vzM (Memref.isWhole_whole _) czM (Memref.isWhole_whole _) nzM (Memref.isWhole_whole _) cc0_scratch3) K := by
  rw [cc0__zero_fill_eq_skeleton]
  unfold cc0__zero_fill_skel
  rw [k0_part1_eq_skeleton, k0_part2_eq_skeleton]
  unfold k0_part1_skel k0_part2_skel
  iintro ⟨Hvox, Hcoor, Hnum, Hvz, Hcz, Hnz, ⟨Hs0, Hs1, Hs2, Hs3, Hs4, Hs5, Hs6, Hs7, Hs8⟩, HO, Hk⟩
  -- the zero block: read once, then written
  set_option sl_exec.maxSteps 2 in sl_exec
  ihave Hz := (Entails.of_eq (congrArg (pt (F := F) c vzM fullShare)
    ((stored_eq cc0_scratch0 (by decide) inb_S5x4x20000_S5x4x20000_0_0_0 g0 k0_pay1).trans (show _ = fun _ => zf from rfl)))) $$ Hvz
  ihave Hz' := (vz_listed c _).1 $$ Hz
  icases Hz' with ⟨Hzr, Hz0, Hz1, Hz2, Hz3, Hz4, Hz5, Hz6⟩
  ihave Hb := (Entails.of_eq (vox_listed c f0)) $$ Hvox
  icases Hb with ⟨Hb0, Hb1, Hb2, Hb3, Hb4, Hb5, Hb6⟩
  sl_exec
  sl_step
  have h0 : body_run.sl.dma0 (F := F) = fun _ => zf := rfl
  have h1 : body_run.sl.dma4 (F := F) c g1 = fun _ => 0#32 :=
    congrArg (View.read (Elt F) czM.view) (stored_eq cc0_scratch1 (by decide) inb_S4x20000_S4x20000_0_0 g1 k0_pay2)
  have h2 : body_run.sl.dma4_1 (F := F) c g2 = fun _ => 0#32 :=
    congrArg (View.read (Elt F) nzM.view) (stored_eq cc0_scratch2 (by decide) inb_S20000_S20000_0 g2 k0_pay3)
  iapply Hk
  isplitl [Hb0 Hb1 Hb2 Hb3 Hb4 Hb5 Hb6]
  · iapply (Entails.of_eq (vox_listed c (fun _ => zf)).symm)
    isplitl [Hb0]; · iapply (blk_landed (F := F) c ![0, 0, 0] inb_S35x4x20000_S5x4x20000_0_0_0 f0 _ h0) $$ Hb0
    isplitl [Hb1]; · iapply (blk_landed (F := F) c ![5, 0, 0] inb_S35x4x20000_S5x4x20000_5_0_0 f0 _ h0) $$ Hb1
    isplitl [Hb2]; · iapply (blk_landed (F := F) c ![10, 0, 0] inb_S35x4x20000_S5x4x20000_10_0_0 f0 _ h0) $$ Hb2
    isplitl [Hb3]; · iapply (blk_landed (F := F) c ![15, 0, 0] inb_S35x4x20000_S5x4x20000_15_0_0 f0 _ h0) $$ Hb3
    isplitl [Hb4]; · iapply (blk_landed (F := F) c ![20, 0, 0] inb_S35x4x20000_S5x4x20000_20_0_0 f0 _ h0) $$ Hb4
    isplitl [Hb5]; · iapply (blk_landed (F := F) c ![25, 0, 0] inb_S35x4x20000_S5x4x20000_25_0_0 f0 _ h0) $$ Hb5
    iapply (blk_landed (F := F) c ![30, 0, 0] inb_S35x4x20000_S5x4x20000_30_0_0 f0 _ h0) $$ Hb6
  isplitl [Hcoor]
  · iapply (Entails.of_eq (landed (F := F) c coorM fullShare f1 (fun _ => (0#32 : BitVec 32)) _ h1)) $$ Hcoor
  isplitl [Hnum]
  · iapply (Entails.of_eq (landed (F := F) c numM fullShare f2 (fun _ => (0#32 : BitVec 32)) _ h2)) $$ Hnum
  isplitl [Hzr Hz0 Hz1 Hz2 Hz3 Hz4 Hz5 Hz6]
  · iexists (fun _ => zf)
    iapply (vz_listed c (fun _ => zf)).2
    isplitl [Hzr]; · iexact Hzr
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  isplitl [Hcz]; · iexists _; iexact Hcz
  isplitl [Hnz]; · iexists _; iexact Hnz
  isplitl [Hs0 Hs1 Hs2 Hs3 Hs4 Hs5 Hs6 Hs7 Hs8]
  · unfold sems0
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  iexists _; iexact HO

end Cert.Kernel.Hand

end
-- ==== Proof.Launch.lean ====
/-
  The launch: the body's run carried to the program's, with the host lines after it.
-/
module

public import proofs.«01_k».proof.Proof.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region is entered with and what it leaves -/

/-- The body's nine transfer semaphores. -/
abbrev osem0 : Fin 9 → SemLoc sig := fun j => SemLoc.dma j
theorem ownSemFacts0 : Pipeline.OwnSemFacts (cfg0.spec) osem0 := by decide

/-- The nine at zero, one by one. -/
theorem ownSems0_eq (c : Dev nD) :
    (Pipeline.ownSems0 (Ix := Unit) (Name := ℕ) (U := Pipeline.UD sig nD τ) (Lvl := ℕ) (Val := Elt F) (τ := τ) osem0 c : sProp 𝕄)
      = sems0 c := by
  rw [Pipeline.ownSems0_eq_of_list c osem0 [0, 1, 2, 3, 4, 5, 6, 7, 8] (by decide) (by decide)]; rfl

/-- The buffers the body writes: the three results. -/
def R0 : Finset (Ref sig .tc) := {main_v0_0, main_v0_1, main_v0_2}
theorem R0_sub : R0 ⊆ Pipeline.restRefs sig (cfg0.spec) \ ∅ := by decide

/-- What every buffer holds after the region: the three results zero, the rest as before. -/
def G (c : Dev nD) : (b : Ref sig .tc) → Buf (Elt F) ((c : Thread nD τ).loc b) :=
  Function.update (Function.update (Function.update (V m c) main_v0_0 (fun _ => (zf : F .f32)))
    main_v0_1 (fun _ => (0#32 : BitVec 32))) main_v0_2 (fun _ => (0#32 : BitVec 32))

theorem G_vox (c : Dev nD) : G m c main_v0_0 = fun _ => (zf : F .f32) := by
  unfold G
  rw [Function.update_of_ne (by decide), Function.update_of_ne (by decide), Function.update_self]
theorem G_coor (c : Dev nD) : G m c main_v0_1 = fun _ => (0#32 : BitVec 32) := by
  unfold G
  rw [Function.update_of_ne (by decide), Function.update_self]
theorem G_num (c : Dev nD) : G m c main_v0_2 = fun _ => (0#32 : BitVec 32) := by
  unfold G
  rw [Function.update_self]

/-- A whole buffer held is its memref's elements held. -/
theorem pt_whole (c : Dev nD) (b : Ref sig .tc) (f : Buf (Elt F) ((c : Thread nD τ).loc b)) :
    ((c : Thread nD τ).loc b ↦{fullShare} f : sProp 𝕄) = pt c (Memref.whole b) fullShare f :=
  congrArg (fun S => ((c : Thread nD τ).loc b ↦[S]{fullShare} f : sProp 𝕄)) (View.set_whole b).symm

/-- What the body is run with and returns: its scratch at some contents, its semaphores at zero, the results at `X`. -/
theorem Phi_eq (c : Dev nD) (X : (c : Dev nD) → (b : Ref sig .tc) → Buf (Elt F) ((c.tc : Thread nD τ).loc b)) :
    (Pipeline.ΦDRV osem0 (cfg0.spec) ∅ R0 (V m) X c : sProp 𝕄)
      = iprop(((∃ f, pt c vzM fullShare f) ∗ (∃ f, pt c czM fullShare f) ∗ (∃ f, pt c nzM fullShare f))
          ∗ sems0 c ∗ emp
          ∗ pt c voxM fullShare (X c main_v0_0) ∗ pt c coorM fullShare (X c main_v0_1) ∗ pt c numM fullShare (X c main_v0_2)) := by
  unfold Pipeline.ΦDRV
  rw [scopedRest0_eq, ownSems0_eq, bigSep_empty,
    BI.bigSep_eq_bigSepL_of_eq [main_v0_0, main_v0_1, main_v0_2] (by decide) (by decide)]
  simp only [pt_whole]
  rfl

/-- The proof data of the region on core `c`: no window, the results as they were before the point and zero after it. -/
def dats (_ : Fin 1) (c : Dev nD) : Dat τ (Elt F) Unit ℕ (Pipeline.UD sig nD τ) ℕ cfg0 c where
  A w := w.elim0
  after w := w.elim0
  Φ p := Pipeline.ΦDRV osem0 (cfg0.spec) ∅ R0 (V m) (if p = 0 then V m else G m) c
  q _ := fullShare
  owed _ := 0

/-! ## The body at its point -/

theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
        (fun _ => iprop((dats m 0 c).Φ t.succ ∗ (dats m 0 c).owesAt () t.succ ∗ emp)) := by
  unfold bodyAt0
  have h0 : (dats m 0 c).Φ t.castSucc = Pipeline.ΦDRV osem0 (cfg0.spec) ∅ R0 (V m) (V m) c := by
    have ht : t.castSucc = 0 := by rw [fin_N0 t]; rfl
    unfold dats; dsimp only; rw [if_pos ht]
  have h1 : (dats m 0 c).Φ t.succ = Pipeline.ΦDRV osem0 (cfg0.spec) ∅ R0 (V m) (G m) c := by
    unfold dats; dsimp only; rw [if_neg (Fin.succ_ne_zero t)]
  rw [h0, h1, Phi_eq, Phi_eq, G_vox, G_coor, G_num]
  unfold Dat.owesAt Pipeline.owesWithin
  rw [show (dats m 0 c).owed t.castSucc = 0 from rfl, show (dats m 0 c).owed t.succ = 0 from rfl]
  iintro ⟨⟨⟨⟨%g0, Hvz⟩, ⟨%g1, Hcz⟩, ⟨%g2, Hnz⟩⟩, Hs, -, Hvox, Hcoor, Hnum⟩, ⟨%W, -, HW⟩, -⟩
  iapply (body_run c (V m c main_v0_0) (V m c main_v0_1) (V m c main_v0_2) g0 g1 g2 W _)
  isplitl [Hvox]; · iexact Hvox
  isplitl [Hcoor]; · iexact Hcoor
  isplitl [Hnum]; · iexact Hnum
  isplitl [Hvz]; · iexact Hvz
  isplitl [Hcz]; · iexact Hcz
  isplitl [Hnz]; · iexact Hnz
  isplitl [Hs]; · iexact Hs
  isplitl [HW]; · iexact HW
  iintro ⟨Hvox, Hcoor, Hnum, Hvz, Hcz, Hnz, Hs, ⟨%W', HW'⟩⟩
  isplitl [Hvox Hcoor Hnum Hvz Hcz Hnz Hs]
  · isplitl [Hvz Hcz Hnz]
    · isplitl [Hvz]; · iexact Hvz
      isplitl [Hcz]; · iexact Hcz
      iexact Hnz
    isplitl [Hs]; · iexact Hs
    isplitr; · iempintro
    isplitl [Hvox]; · iexact Hvox
    isplitl [Hcoor]; · iexact Hcoor
    iexact Hnum
  isplitl [HW']
  · iexists W'; isplitr; · ipureintro; exact fun _ _ => Or.inl trivial
    iexact HW'
  iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  haveI : IsEmpty (Fin cfg0.W) := inferInstanceAs (IsEmpty (Fin 0))
  rw [Finset.univ_eq_empty, bigSep_empty, bigSep_empty, defs₀_row]
  exact triple_restated (sound_body m c t) rfl .rfl fun _ => .rfl

/-! ## The program's run -/

set_option maxHeartbeats 800000 in
/-- The program reduces to its region followed by its host lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall])
    (by simp only [List.Forall]) main_chain

/-- What the host lines start from on core `c`. -/
abbrev W1 (c : Dev nD) : Valuation τ sig (Elt F) :=
  Pipeline.withArrays (cfg0.spec) c (Pipeline.withR (V0 m c) R0 c (G m c)) fun w => (dats m 0 c).arrAt w cfg0.N

set_option backward.isDefEq.respectTransparency.types false in
/-- Every run ends with each buffer as the host lines leave it and every semaphore at zero. -/
theorem run_main : θ_run defs (onTc (τ := τ) (main (F := F))) (s₀ m ρ) (fun r => (∀ c : Dev nD, ∀ b ∈ Pipeline.restRefs sig (cfg0.spec),
      r.2.mem ((c.tc : Thread nD τ).loc b) = StableHlo.after hostOps1 (W1 m c) (Proc.devRef .tc b)) ∧ r.2.sem = fun _ => 0) :=
  Pipeline.θ_run_frame_dmaR_aroundV (Q' := _) cfgs (dats m) (0 : Fin 1) launch0 osem0 defs₀ Variants.none ownSemFacts0 ∅ R0
    (Finset.empty_subset _) R0_sub m ρ main
    (hbody := fun c => (body_obligation m c).loose) (hshare := fun c w => w.elim0)
    (howed := fun _ _ => rfl) (V₀ := V0 m) (opss := [hostOps1]) (hsub := sfx_sub) (hfresh := sfx_fresh) (hkeep := sfx_keeps)
    (G := G m) (hmain := hmain m Variants.none) (hA := fun _ w => w.elim0)
    (hin := fun c => Entails.of_eq (by unfold dats; rfl)) (hout := fun c => Entails.of_eq (by unfold dats; rfl))
    (hQ' := fun r h => ⟨fun c => (h.1 c).2, h.2⟩)

end Cert.Kernel.Hand

end
-- ==== Proof.Results.lean ====
/-
  What every buffer the claims name holds when the program has ended: its three results are zero throughout, and its
  argument is as it was.
-/
module

public import proofs.«01_k».proof.Proof.Launch

@[expose] public section

noncomputable section

namespace Cert.Kernel.Hand

open Cert.Kernel Cert.Kernel.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The region has no window, so what the host lines start from is the region's own outcome. -/
theorem W1_eq (c : Dev nD) (b : Ref sig .tc) :
    W1 m c (Proc.devRef .tc b) = Pipeline.withR (V0 m c) R0 c (G m c) (Proc.devRef .tc b) :=
  Pipeline.withArrays_of_ne (cfg0.spec) c _ _ b fun w => w.elim0

/-- A result of the kernel is, before the host lines, what the region left in it. -/
theorem W1_result (c : Dev nD) (b : Ref sig .tc) (hb : b ∈ R0) : W1 m c (Proc.devRef .tc b) = G m c b :=
  (W1_eq m c b).trans (Pipeline.withR_of_mem (V0 m c) R0 c (G m c) b hb)

/-- Any other buffer is, before the host lines, what it was at the start. -/
theorem W1_rest (c : Dev nD) (b : Ref sig .tc) (hb : b ∉ R0) : W1 m c (Proc.devRef .tc b) = m ((c : Thread nD τ).loc b) :=
  (W1_eq m c b).trans (Pipeline.withR_of_not_mem (V0 m c) R0 c (G m c) b hb)

/-- The first result: the zeros, their axes permuted. -/
theorem end_vox (c : Dev nD) : StableHlo.after hostOps1 (W1 m c) (Proc.devRef .tc main_v1) = fun _ => (zf : F .f32) := by
  unfold hostOps1
  after_results
  rw [W1_result m c main_v0_0 (by decide), G_vox]
  rfl

/-- The second result: the first three columns of the zeros transposed. -/
theorem end_coor (c : Dev nD) : StableHlo.after hostOps1 (W1 m c) (Proc.devRef .tc main_v3) = fun _ => (0#32 : BitVec 32) := by
  unfold hostOps1
  after_results
  rw [W1_result m c main_v0_1 (by decide), G_coor]
  rfl

/-- The third result: the zeros as the kernel left them. -/
theorem end_num (c : Dev nD) : StableHlo.after hostOps1 (W1 m c) (Proc.devRef .tc main_v0_2) = fun _ => (0#32 : BitVec 32) := by
  unfold hostOps1
  after_results
  rw [W1_result m c main_v0_2 (by decide), G_num]

/-- The argument: nothing wrote it. -/
theorem end_arg (c : Dev nD) : StableHlo.after hostOps1 (W1 m c) (Proc.devRef .tc main_arg0) = m ((c : Thread nD τ).loc main_arg0) := by
  unfold hostOps1
  after_results
  exact W1_rest m c main_arg0 (by decide)

/-- Every run of the program ends with its three results zero throughout, its argument unchanged and every semaphore at
    zero. -/
theorem run : θ_run defs (onTc (τ := τ) (main (F := F))) ⟨m, fun _ => 0, ρ⟩ (fun r => (∀ c : Dev nD,
      r.2.mem ((c.tc : Thread nD τ).loc main_v1) = (fun _ => (zf : F .f32))
      ∧ r.2.mem ((c.tc : Thread nD τ).loc main_v3) = (fun _ => (0#32 : BitVec 32))
      ∧ r.2.mem ((c.tc : Thread nD τ).loc main_v0_2) = (fun _ => (0#32 : BitVec 32))
      ∧ r.2.mem ((c.tc : Thread nD τ).loc main_arg0) = m ((c.tc : Thread nD τ).loc main_arg0))
      ∧ r.2.sem = fun _ => 0) :=
  (θ_run defs _ _).mono (fun r h => ⟨fun c =>
    ⟨(h.1 c main_v1 (Pipeline.mem_restRefs_of main_v1 (by decide) (by decide))).trans (end_vox m c),
     (h.1 c main_v3 (Pipeline.mem_restRefs_of main_v3 (by decide) (by decide))).trans (end_coor m c),
     (h.1 c main_v0_2 (Pipeline.mem_restRefs_of main_v0_2 (by decide) (by decide))).trans (end_num m c),
     (h.1 c main_arg0 (Pipeline.mem_restRefs_of main_arg0 (by decide) (by decide))).trans (end_arg m c)⟩, h.2⟩)
    (run_main m ρ)

end Cert.Kernel.Hand

end
-- ==== Proof.Reference.lean ====
/-
  What the reference computes: its three results are zero throughout, whatever its argument holds.
-/
module

public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable {F : FTy → Type} [FloatOps F]

/-- Every run of the reference ends with its three results zero throughout, its argument unchanged and every semaphore
    at zero: the results are one zero broadcast to each shape, and the program declares no semaphore. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0) = (fun _ => (Scalar.ofBits .f32 0x00000000#32 : F .f32))
      ∧ r.2.mem ((c.tc : Thread nD τ).loc main_v1) = (fun _ => (0#32 : BitVec 32))
      ∧ r.2.mem ((c.tc : Thread nD τ).loc main_v2) = (fun _ => (0#32 : BitVec 32))
      ∧ r.2.mem ((c.tc : Thread nD τ).loc main_arg0) = m ((c.tc : Thread nD τ).loc main_arg0))
      ∧ r.2.sem = fun _ => 0) :=
  (θ_run defs _ _).mono (fun r h => ⟨fun c =>
    ⟨(h c).1.trans rfl, (h c).2.1.trans rfl, (h c).2.2.1.trans rfl, (h c).2.2.2⟩,
    sem_eq_zero_of_no_sems (by decide) r.2⟩) (Value.run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Results
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem Cert.Kernel

/-- The idealized kernel is the kernel's own text: it runs to the same end, over the extended reals. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v1) = (fun _ => (Cert.Kernel.Hand.zf : Ideal .f32))
        ∧ r.2.mem ((c.tc : Thread Cert.KernelIdeal.nD Cert.KernelIdeal.τ).loc Cert.KernelIdeal.main_v3) = (fun _ => (0#32 : BitVec 32))
        ∧ r.2.mem ((c.tc : Thread Cert.KernelIdeal.nD Cert.KernelIdeal.τ).loc Cert.KernelIdeal.main_v0_2) = (fun _ => (0#32 : BitVec 32))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
      ∧ r.2.sem = fun _ => 0) :=
  Cert.Kernel.Hand.run (F := Ideal) m g

/-- The kernel, over machine floats, terminates with its argument unchanged and every semaphore at zero. -/
theorem frame_p : Cert.quiescent_Kernel := fun m g _ =>
  (θ_run _ _ _).mono (fun _ h => ⟨fun c => (h.1 c).2.2.2, h.2⟩) (Cert.Kernel.Hand.run (F := Bits) m g)

/-- The idealized kernel terminates with its argument unchanged and every semaphore at zero. -/
theorem frame_pi : Cert.quiescent_KernelIdeal := fun m g _ =>
  (θ_run _ _ _).mono (fun _ h => ⟨fun c => (h.1 c).2.2.2, h.2⟩) (run_ideal m g)

/-- The reference terminates with its argument unchanged and every semaphore at zero. -/
theorem frame_ri : Cert.quiescent_ReferenceIdeal := fun m g _ =>
  (θ_run _ _ _).mono (fun _ h => ⟨fun c => (h.1 c).2.2.2, h.2⟩) (Cert.ReferenceIdeal.Hand.run (F := Ideal) m g)

/-- The idealized kernel and the reference end with the same three results: all are zero throughout. -/
theorem algebraic : Cert.algebraic_KernelIdeal_ReferenceIdeal := fun m g m' g' _ _ =>
  ⟨fun _ => fun _ => (Cert.Kernel.Hand.zf : Ideal .f32), fun _ => fun _ => (0#32 : BitVec 32), fun _ => fun _ => (0#32 : BitVec 32),
    (θ_run _ _ _).mono (fun _ h c => h.1 c) (run_ideal m g),
    (θ_run _ _ _).mono (fun _ h c => h.1 c) (Cert.ReferenceIdeal.Hand.run (F := Ideal) m' g')⟩

/-- Everything claimed: the three frames, the idealization, and the equality of the results with the reference's. -/
theorem claim : Cert.Claim := ⟨Cert.Kernel.Gen.facts, Cert.KernelIdeal.Gen.facts, Cert.ReferenceIdeal.Gen.facts,
  frame_p, frame_pi, frame_ri, trivial, algebraic⟩

end Cert.Proof

end
